-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x24x24x768 : Shape := ⟨5, ![16, 4, 24, 24, 768]⟩
abbrev S32x768 : Shape := ⟨2, ![32, 768]⟩
abbrev S1x768 : Shape := ⟨2, ![1, 768]⟩
abbrev S768 : Shape := ⟨1, ![768]⟩
abbrev S16x576x768 : Shape := ⟨3, ![16, 576, 768]⟩
abbrev S1x4x8x24x768 : Shape := ⟨5, ![1, 4, 8, 24, 768]⟩
abbrev S1x192x768 : Shape := ⟨3, ![1, 192, 768]⟩
abbrev S4x8x24x768 : Shape := ⟨4, ![4, 8, 24, 768]⟩
abbrev S1x8x24x768 : Shape := ⟨4, ![1, 8, 24, 768]⟩
abbrev S8x24x768 : Shape := ⟨3, ![8, 24, 768]⟩
abbrev S8x768 : Shape := ⟨2, ![8, 768]⟩
abbrev S24x768 : Shape := ⟨2, ![24, 768]⟩
abbrev S8x1x768 : Shape := ⟨3, ![8, 1, 768]⟩
abbrev S1x24x768 : Shape := ⟨3, ![1, 24, 768]⟩
abbrev S1x1x768 : Shape := ⟨3, ![1, 1, 768]⟩
abbrev S8x24 : Shape := ⟨2, ![8, 24]⟩
abbrev S8x24x1 : Shape := ⟨3, ![8, 24, 1]⟩
abbrev S192x768 : Shape := ⟨2, ![192, 768]⟩

abbrev nBuf : Space → Nat
  | .hbm => 9
  | .vmem => 9
  | .smem => 0
  | _ => 0

abbrev bufTy : (tb : Table) → Fin (tcTables nBuf tb) → BufTy
  | .hbm, ⟨0, _⟩ => ⟨S16x4x24x24x768, .f32⟩
  | .hbm, ⟨1, _⟩ => ⟨S32x768, .f32⟩
  | .hbm, ⟨2, _⟩ => ⟨S32x768, .f32⟩
  | .hbm, ⟨3, _⟩ => ⟨S1x768, .f32⟩
  | .hbm, ⟨4, _⟩ => ⟨S768, .f32⟩
  | .hbm, ⟨5, _⟩ => ⟨S768, .f32⟩
  | .hbm, ⟨6, _⟩ => ⟨S1x768, .f32⟩
  | .hbm, ⟨7, _⟩ => ⟨S1x768, .f32⟩
  | .hbm, ⟨8, _⟩ => ⟨S16x576x768, .f32⟩
  | .local _ .vmem, ⟨0, _⟩ => ⟨S1x4x8x24x768, .f32⟩
  | .local _ .vmem, ⟨1, _⟩ => ⟨S1x4x8x24x768, .f32⟩
  | .local _ .vmem, ⟨2, _⟩ => ⟨S32x768, .f32⟩
  | .local _ .vmem, ⟨3, _⟩ => ⟨S32x768, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x192x768, .f32⟩
  | .local _ .vmem, ⟨8, _⟩ => ⟨S1x192x768, .f32⟩
  | _, _ => ⟨S16x4x24x24x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 3], ![false, false]⟩

def k0_off1 (i : grid0.Coords) : Fin 2 → Nat :=
  let arg1 : BitVec 32 := BitVec.ofNat 32 (i 1).val
  let c8_i32 : BitVec 32 := 8#32
  let v15 : BitVec 32 := Scalar.muli arg1 c8_i32
  let v16 : Index := Scalar.indexCast v15
  let c0_4 : Index := 0#32
  ![v16.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x8x24x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x192x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x4x24x24x768 : Shape := ⟨5, ![16, 4, 24, 24, 768]⟩
abbrev S32x768 : Shape := ⟨2, ![32, 768]⟩
abbrev S1x768 : Shape := ⟨2, ![1, 768]⟩
abbrev S768 : Shape := ⟨1, ![768]⟩
abbrev S_ : Shape := ⟨0, ![]⟩
abbrev S16x24x24x768 : Shape := ⟨4, ![16, 24, 24, 768]⟩
abbrev S24 : Shape := ⟨1, ![24]⟩
abbrev S24x1 : Shape := ⟨2, ![24, 1]⟩
abbrev S1 : Shape := ⟨1, ![1]⟩
abbrev S1x1 : Shape := ⟨2, ![1, 1]⟩
abbrev S24x768 : Shape := ⟨2, ![24, 768]⟩
abbrev S1x24x1x768 : Shape := ⟨4, ![1, 24, 1, 768]⟩
abbrev S1x1x24x768 : Shape := ⟨4, ![1, 1, 24, 768]⟩
abbrev S16x576x768 : Shape := ⟨3, ![16, 576, 768]⟩
abbrev S16x576 : Shape := ⟨2, ![16, 576]⟩
abbrev S16x576x1 : Shape := ⟨3, ![16, 576, 1]⟩
abbrev S1x1x1 : Shape := ⟨3, ![1, 1, 1]⟩
abbrev S1x1x768 : Shape := ⟨3, ![1, 1, 768]⟩

abbrev nBuf : Space → Nat
  | .hbm => 121
  | .vmem => 0
  | .smem => 0
  | _ => 0

abbrev bufTy : (tb : Table) → Fin (tcTables nBuf tb) → BufTy
  | .hbm, ⟨0, _⟩ => ⟨S16x4x24x24x768, .f32⟩
  | .hbm, ⟨1, _⟩ => ⟨S32x768, .f32⟩
  | .hbm, ⟨2, _⟩ => ⟨S32x768, .f32⟩
  | .hbm, ⟨3, _⟩ => ⟨S1x768, .f32⟩
  | .hbm, ⟨4, _⟩ => ⟨S768, .f32⟩
  | .hbm, ⟨5, _⟩ => ⟨S768, .f32⟩
  | .hbm, ⟨6, _⟩ => ⟨S_, .f32⟩
  | .hbm, ⟨7, _⟩ => ⟨S16x24x24x768, .f32⟩
  | .hbm, ⟨8, _⟩ => ⟨S_, .f32⟩
  | .hbm, ⟨9, _⟩ => ⟨S16x24x24x768, .f32⟩
  | .hbm, ⟨10, _⟩ => ⟨S16x24x24x768, .f32⟩
  | .hbm, ⟨11, _⟩ => ⟨S24, .i32⟩
  | .hbm, ⟨12, _⟩ => ⟨S_, .i32⟩
  | .hbm, ⟨13, _⟩ => ⟨S24, .i32⟩
  | .hbm, ⟨14, _⟩ => ⟨S24, .i1⟩
  | .hbm, ⟨15, _⟩ => ⟨S_, .i32⟩
  | .hbm, ⟨16, _⟩ => ⟨S24, .i32⟩
  | .hbm, ⟨17, _⟩ => ⟨S24, .i32⟩
  | .hbm, ⟨18, _⟩ => ⟨S24, .i32⟩
  | .hbm, ⟨19, _⟩ => ⟨S24x1, .i32⟩
  | .hbm, ⟨20, _⟩ => ⟨S1, .i32⟩
  | .hbm, ⟨21, _⟩ => ⟨S_, .i32⟩
  | .hbm, ⟨22, _⟩ => ⟨S24x1, .i32⟩
  | .hbm, ⟨23, _⟩ => ⟨S24x1, .i1⟩
  | .hbm, ⟨24, _⟩ => ⟨S1x1, .i32⟩
  | .hbm, ⟨25, _⟩ => ⟨S24x1, .i32⟩
  | .hbm, ⟨26, _⟩ => ⟨S24x1, .i1⟩
  | .hbm, ⟨27, _⟩ => ⟨S24x1, .i1⟩
  | .hbm, ⟨28, _⟩ => ⟨S_, .i1⟩
  | .hbm, ⟨29, _⟩ => ⟨S24, .i1⟩
  | .hbm, ⟨30, _⟩ => ⟨S24x768, .f32⟩
  | .hbm, ⟨31, _⟩ => ⟨S24x768, .i1⟩
  | .hbm, ⟨32, _⟩ => ⟨S_, .f32⟩
  | .hbm, ⟨33, _⟩ => ⟨S24x768, .f32⟩
  | .hbm, ⟨34, _⟩ => ⟨S24x768, .f32⟩
  | .hbm, ⟨35, _⟩ => ⟨S1x24x1x768, .f32⟩
  | .hbm, ⟨36, _⟩ => ⟨S16x24x24x768, .f32⟩
  | .hbm, ⟨37, _⟩ => ⟨S16x24x24x768, .f32⟩
  | .hbm, ⟨38, _⟩ => ⟨S24, .i32⟩
  | .hbm, ⟨39, _⟩ => ⟨S_, .i32⟩
  | .hbm, ⟨40, _⟩ => ⟨S24, .i32⟩
  | .hbm, ⟨41, _⟩ => ⟨S24, .i1⟩
  | .hbm, ⟨42, _⟩ => ⟨S_, .i32⟩
  | .hbm, ⟨43, _⟩ => ⟨S24, .i32⟩
  | .hbm, ⟨44, _⟩ => ⟨S24, .i32⟩
  | .hbm, ⟨45, _⟩ => ⟨S24, .i32⟩
  | .hbm, ⟨46, _⟩ => ⟨S24x1, .i32⟩
  | .hbm, ⟨47, _⟩ => ⟨S1, .i32⟩
  | .hbm, ⟨48, _⟩ => ⟨S_, .i32⟩
  | .hbm, ⟨49, _⟩ => ⟨S24x1, .i32⟩
  | .hbm, ⟨50, _⟩ => ⟨S24x1, .i1⟩
  | .hbm, ⟨51, _⟩ => ⟨S1x1, .i32⟩
  | .hbm, ⟨52, _⟩ => ⟨S24x1, .i32⟩
  | .hbm, ⟨53, _⟩ => ⟨S24x1, .i1⟩
  | .hbm, ⟨54, _⟩ => ⟨S24x1, .i1⟩
  | .hbm, ⟨55, _⟩ => ⟨S_, .i1⟩
  | .hbm, ⟨56, _⟩ => ⟨S24, .i1⟩
  | .hbm, ⟨57, _⟩ => ⟨S24x768, .f32⟩
  | .hbm, ⟨58, _⟩ => ⟨S24x768, .i1⟩
  | .hbm, ⟨59, _⟩ => ⟨S_, .f32⟩
  | .hbm, ⟨60, _⟩ => ⟨S24x768, .f32⟩
  | .hbm, ⟨61, _⟩ => ⟨S24x768, .f32⟩
  | .hbm, ⟨62, _⟩ => ⟨S1x1x24x768, .f32⟩
  | .hbm, ⟨63, _⟩ => ⟨S16x24x24x768, .f32⟩
  | .hbm, ⟨64, _⟩ => ⟨S16x24x24x768, .f32⟩
  | .hbm, ⟨65, _⟩ => ⟨S16x576x768, .f32⟩
  | .hbm, ⟨66, _⟩ => ⟨S_, .i32⟩
  | .hbm, ⟨67, _⟩ => ⟨S16x576, .i32⟩
  | .hbm, ⟨68, _⟩ => ⟨S_, .i32⟩
  | .hbm, ⟨69, _⟩ => ⟨S16x576, .i32⟩
  | .hbm, ⟨70, _⟩ => ⟨S16x576, .i1⟩
  | .hbm, ⟨71, _⟩ => ⟨S_, .i32⟩
  | .hbm, ⟨72, _⟩ => ⟨S16x576, .i32⟩
  | .hbm, ⟨73, _⟩ => ⟨S16x576, .i32⟩
  | .hbm, ⟨74, _⟩ => ⟨S16x576, .i32⟩
  | .hbm, ⟨75, _⟩ => ⟨S16x576x1, .i32⟩
  | .hbm, ⟨76, _⟩ => ⟨S1, .i32⟩
  | .hbm, ⟨77, _⟩ => ⟨S_, .i32⟩
  | .hbm, ⟨78, _⟩ => ⟨S16x576x1, .i32⟩
  | .hbm, ⟨79, _⟩ => ⟨S16x576x1, .i1⟩
  | .hbm, ⟨80, _⟩ => ⟨S1x1x1, .i32⟩
  | .hbm, ⟨81, _⟩ => ⟨S16x576x1, .i32⟩
  | .hbm, ⟨82, _⟩ => ⟨S16x576x1, .i1⟩
  | .hbm, ⟨83, _⟩ => ⟨S16x576x1, .i1⟩
  | .hbm, ⟨84, _⟩ => ⟨S_, .i1⟩
  | .hbm, ⟨85, _⟩ => ⟨S16x576, .i1⟩
  | .hbm, ⟨86, _⟩ => ⟨S16x576x768, .f32⟩
  | .hbm, ⟨87, _⟩ => ⟨S16x576x768, .i1⟩
  | .hbm, ⟨88, _⟩ => ⟨S_, .f32⟩
  | .hbm, ⟨89, _⟩ => ⟨S16x576x768, .f32⟩
  | .hbm, ⟨90, _⟩ => ⟨S16x576x768, .f32⟩
  | .hbm, ⟨91, _⟩ => ⟨S16x576x768, .f32⟩
  | .hbm, ⟨92, _⟩ => ⟨S_, .f32⟩
  | .hbm, ⟨93, _⟩ => ⟨S16x576, .f32⟩
  | .hbm, ⟨94, _⟩ => ⟨S16x576x1, .f32⟩
  | .hbm, ⟨95, _⟩ => ⟨S_, .f32⟩
  | .hbm, ⟨96, _⟩ => ⟨S16x576x1, .f32⟩
  | .hbm, ⟨97, _⟩ => ⟨S16x576x1, .f32⟩
  | .hbm, ⟨98, _⟩ => ⟨S16x576x768, .f32⟩
  | .hbm, ⟨99, _⟩ => ⟨S16x576x768, .f32⟩
  | .hbm, ⟨100, _⟩ => ⟨S16x576x768, .f32⟩
  | .hbm, ⟨101, _⟩ => ⟨S_, .f32⟩
  | .hbm, ⟨102, _⟩ => ⟨S16x576, .f32⟩
  | .hbm, ⟨103, _⟩ => ⟨S16x576x1, .f32⟩
  | .hbm, ⟨104, _⟩ => ⟨S_, .f32⟩
  | .hbm, ⟨105, _⟩ => ⟨S16x576x1, .f32⟩
  | .hbm, ⟨106, _⟩ => ⟨S16x576x1, .f32⟩
  | .hbm, ⟨107, _⟩ => ⟨S16x576x768, .f32⟩
  | .hbm, ⟨108, _⟩ => ⟨S16x576x768, .f32⟩
  | .hbm, ⟨109, _⟩ => ⟨S_, .f32⟩
  | .hbm, ⟨110, _⟩ => ⟨S16x576x1, .f32⟩
  | .hbm, ⟨111, _⟩ => ⟨S16x576x1, .f32⟩
  | .hbm, ⟨112, _⟩ => ⟨S16x576x1, .f32⟩
  | .hbm, ⟨113, _⟩ => ⟨S16x576x768, .f32⟩
  | .hbm, ⟨114, _⟩ => ⟨S16x576x768, .f32⟩
  | .hbm, ⟨115, _⟩ => ⟨S1x1x768, .f32⟩
  | .hbm, ⟨116, _⟩ => ⟨S16x576x768, .f32⟩
  | .hbm, ⟨117, _⟩ => ⟨S16x576x768, .f32⟩
  | .hbm, ⟨118, _⟩ => ⟨S1x1x768, .f32⟩
  | .hbm, ⟨119, _⟩ => ⟨S16x576x768, .f32⟩
  | .hbm, ⟨120, _⟩ => ⟨S16x576x768, .f32⟩
  | _, _ => ⟨S16x4x24x24x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_v14 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v15 : Ref sig .tc := ⟨.hbm, 90, rfl⟩
abbrev main_v16 : Ref sig .tc := ⟨.hbm, 91, rfl⟩
abbrev main_cst_1 : Ref sig .tc := ⟨.hbm, 92, rfl⟩
abbrev main_v17 : Ref sig .tc := ⟨.hbm, 93, rfl⟩
abbrev main_v18 : Ref sig .tc := ⟨.hbm, 94, rfl⟩
abbrev main_cst_2 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_cst_3 : Ref sig .tc := ⟨.hbm, 101, rfl⟩
abbrev main_v24 : Ref sig .tc := ⟨.hbm, 102, rfl⟩
abbrev main_v25 : Ref sig .tc := ⟨.hbm, 103, rfl⟩
abbrev main_cst_4 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_cst_5 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩

abbrev nD : Nat := 1
abbrev τ : Topo := Topo.v7x

variable {F : FTy → Type} [FloatOps F]
-- ==== Proof.Scalars.lean ====
/- Facts about single extended reals: the values of the four float constants that the two programs spell as bit patterns,
   the two spellings of the mean of four frames, and the two spellings of the division by a standard deviation. -/
module

public import Idealize.ShloMosaic.Lib.IdealHost

@[expose] public section

noncomputable section

namespace Cert.EmbedNorm

open Idealize.ShloMosaic

/-- The pattern of 0.25 is the real one quarter. -/
theorem quarter_bits : Ideal.ofBits .f32 0x3E800000#32 = (((1 : ℝ) / 4 : ℝ) : EReal) := by
  simp [Ideal.ofBits, Ideal.ieee, -EReal.coe_mul]; norm_num

/-- The pattern of 4.0 is the real four. -/
theorem four_bits : Ideal.ofBits .f32 0x40800000#32 = ((4 : ℝ) : EReal) := by
  simp [Ideal.ofBits, Ideal.ieee, -EReal.coe_mul]; norm_num

/-- The pattern of 768.0 is the real 768. -/
theorem width_bits : Ideal.ofBits .f32 0x44400000#32 = ((768 : ℝ) : EReal) := by
  simp [Ideal.ofBits, Ideal.ieee, -EReal.coe_mul]; norm_num

/-- The pattern of the layer norm's epsilon is a positive number. -/
theorem eps_pos : 0 < Ideal.ofBits .f32 0x2B8CBCCC#32 := by
  simp [Ideal.ofBits, Ideal.ieee, -EReal.coe_mul]

/-- Four frames added one after the other and multiplied by 0.25 are their sum divided by 4, also at the infinities. -/
theorem frames_mean (f : Fin 4 → EReal) :
    (f 0 + f 1 + f 2 + f 3) * Ideal.ofBits .f32 0x3E800000#32 = Ideal.div (∑ k, f k) (Ideal.ofBits .f32 0x40800000#32) := by
  rw [four_bits, Ideal.div_coe (by norm_num : (4 : ℝ) ≠ 0), quarter_bits, Fin.sum_univ_four]

/-- The square of an extended real is not negative. -/
theorem square_nonneg (x : EReal) : 0 ≤ x * x := by
  rcases le_total 0 x with h | h
  · exact EReal.mul_nonneg h h
  · exact EReal.mul_nonneg_iff.2 (.inr ⟨h, h⟩)

/-- A sum of 768 squares divided by 768, with the epsilon added, is positive. -/
theorem variance_pos (f : Fin 768 → EReal) :
    0 < Ideal.div (∑ k, f k * f k) (Ideal.ofBits .f32 0x44400000#32) + Ideal.ofBits .f32 0x2B8CBCCC#32 := by
  rw [width_bits, Ideal.div_coe (by norm_num : (768 : ℝ) ≠ 0)]
  have h : 0 ≤ (∑ k, f k * f k) * (((1 : ℝ) / 768 : ℝ) : EReal) :=
    EReal.mul_nonneg (Finset.sum_nonneg fun k _ => square_nonneg (f k)) (EReal.coe_nonneg.2 (by norm_num))
  exact lt_of_lt_of_le eps_pos (le_add_of_nonneg_left h)

/-- For a positive divisor, infinite ones included, the product with the reciprocal square root is the quotient by the
    square root. -/
theorem mul_rsqrt (x v : EReal) (hv : 0 < v) : x * Ideal.rsqrt v = Ideal.div x (Ideal.sqrt v) := by
  induction v with
  | bot => exact absurd hv (by simp)
  | top => simp [Ideal.div]
  | coe r =>
    have hr : 0 < r := EReal.coe_pos.1 hv
    rw [Ideal.rsqrt_coe, Ideal.sqrt_coe, if_neg hr.le.not_gt, if_neg hr.ne', if_neg hr.le.not_gt,
      Ideal.div_coe (Real.sqrt_pos.2 hr).ne', one_div]

end Cert.EmbedNorm

end
-- ==== Proof.Spec.lean ====
/- What both programs compute, one result element at a time: the embedding of one token, and the layer norm of one token's
   768 channels. -/
module

public import Idealize.ShloMosaic.Lib.Pointwise

@[expose] public section

noncomputable section

namespace Cert.EmbedNorm

open Idealize.ShloMosaic

/-- A channel with the mean over the token's 768 channels taken away. -/
def centered (x : Fin 768 → EReal) (d : Fin 768) : EReal :=
  x d - Ideal.div (∑ k, x k) (Ideal.ofBits .f32 0x44400000#32)

/-- The mean over the token's channels of the squares of the centered channels. -/
def variance (x : Fin 768 → EReal) : EReal :=
  Ideal.div (∑ k, centered x k * centered x k) (Ideal.ofBits .f32 0x44400000#32)

/-- The layer norm of a token's channels `x` at channel `d`, with scale `w` and shift `b`: the centered channel divided by
    the root of the variance plus epsilon, scaled and shifted. -/
def layerNorm (x : Fin 768 → EReal) (w b : EReal) (d : Fin 768) : EReal :=
  Ideal.div (centered x d) (Ideal.sqrt (variance x + Ideal.ofBits .f32 0x2B8CBCCC#32)) * w + b

/-- A token's channel before the layer norm: the mean of its four frames plus the embeddings of its row, its column and
    its token type. -/
def token (f : Fin 4 → EReal) (row col typ : EReal) : EReal :=
  Ideal.div (∑ k, f k) (Ideal.ofBits .f32 0x40800000#32) + row + col + typ

/-- The result at batch entry `b`, grid row `r`, grid column `s` and channel `d`, from the grid of frames, the three
    embedding tables and the layer norm's scale and shift. -/
def result (g : (⟨5, ![16, 4, 24, 24, 768]⟩ : Shape).Idx → EReal) (row col : (⟨2, ![32, 768]⟩ : Shape).Idx → EReal)
    (typ : (⟨2, ![1, 768]⟩ : Shape).Idx → EReal) (w b : (⟨1, ![768]⟩ : Shape).Idx → EReal)
    (n : Fin 16) (r s : Fin 24) (d : Fin 768) : EReal :=
  layerNorm (fun k => token (fun f => g (ix5 n f r s k)) (row (ix2 (r.castLE (by decide)) k))
    (col (ix2 (s.castLE (by decide)) k)) (typ (ix2 0 k))) (w (ix1 d)) (b (ix1 d)) d

end Cert.EmbedNorm

end
-- ==== Proof.Block.lean ====
/- What one grid point computes: the block of 8 rows by 24 columns of tokens that the kernel's body stores, read at one
   element, is the layer norm of that token's embedding. -/
module

public import proofs.«01_k».proof.Proof.Gen.KernelIdeal.Skeleton
public import proofs.«01_k».proof.Proof.Scalars
public import proofs.«01_k».proof.Proof.Spec

@[expose] public section

set_option maxRecDepth 16384

noncomputable section

namespace Cert.KernelIdeal.Block

open Idealize.ShloMosaic Cert.EmbedNorm Cert.KernelIdeal Cert.KernelIdeal.Gen

variable (v0 : Vec Ideal S1x4x8x24x768 .f32) (v17 : Vec Ideal S8x768 .f32) (v18 : Vec Ideal S24x768 .f32)
  (v19 : Vec Ideal S1x768 .f32)

/-- The channels of the block's token at row `r` and column `s`, from the loaded frames, rows, columns and token type. -/
def channels (r : Fin 8) (s : Fin 24) (k : Fin 768) : EReal :=
  token (fun f => v0 (ix5 0 f r s k)) (v17 (ix2 r k)) (v18 (ix2 s k)) (v19 (ix2 0 k))

/-- The body's first payload is the centered embedding. -/
theorem centered_apply (r : Fin 8) (s : Fin 24) (d : Fin 768) :
    k0_pay2 (F := Ideal) v0 v17 v18 v19 (ix3 r s d) = centered (channels v0 v17 v18 v19 r s) d := by
  have h : ∀ k : Fin 768, (v0 (ix5 0 0 r s k) + v0 (ix5 0 1 r s k) + v0 (ix5 0 2 r s k) + v0 (ix5 0 3 r s k)) *
      Ideal.ofBits .f32 0x3E800000#32 + v17 (ix2 r k) + v18 (ix2 s k) + v19 (ix2 0 k) = channels v0 v17 v18 v19 r s k :=
    fun k => by rw [channels, token, ← frames_mean]
  pointwise [k0_pay2]
  simp only [centered, ← h]

/-- The body's second payload is the variance of the embedding. -/
theorem variance_apply (r : Fin 8) (s : Fin 24) (q : Fin 1) :
    k0_pay3 (F := Ideal) v0 v17 v18 v19 (ix3 r s q) = variance (channels v0 v17 v18 v19 r s) := by
  pointwise [k0_pay3]
  simp only [centered_apply, variance]

/-- The stored block at token `r` of its 192 and channel `d` is the layer norm of that token's channels. -/
theorem stored_apply (v46 v51 : Vec Ideal S1x768 .f32) (q : Fin 1) (r : Fin 192) (d : Fin 768) :
    k0_pay1 (F := Ideal) (k0_pay2 v0 v17 v18 v19) (k0_pay3 v0 v17 v18 v19) (Scalar.ofBits .f32 0x2B8CBCCC#32) v46 v51
        (ix3 q r d)
      = layerNorm (channels v0 v17 v18 v19 ⟨r / 24, by omega⟩ ⟨r % 24, by omega⟩) (v46 (ix2 0 d)) (v51 (ix2 0 d)) d := by
  pointwise [k0_pay1]
  rw [centered_apply, variance_apply, layerNorm, mul_rsqrt _ (variance _ + _) (variance_pos _)]

end Cert.KernelIdeal.Block

end
-- ==== Proof.Array.lean ====
/- What the kernel's result array holds after its run: every element is the specification's result of the argument
   arrays. The 48 stored blocks cover the array, one block for each batch entry and each group of eight grid rows. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.KernelIdeal.Final

open Idealize.ShloMosaic Idealize.ShloMosaic.TcCoe Idealize.ShloMosaic.ValueKit Cert.EmbedNorm Cert.KernelIdeal Cert.KernelIdeal.Gen
open Idealize.ShloMosaic.Pipeline (Dat)

variable (m : (ℓ : Loc nD τ sig) → Buf (Elt Ideal) ℓ) (c : Dev nD)

/-- Where each window's block lies at a grid point, in units of blocks. -/
theorem idx : ∀ t : Fin cfg0.N,
    win0_0.index t = ![(grid0.coords t 0).val, 0, (grid0.coords t 1).val, 0, 0] ∧ win0_1.index t = ![0, 0] ∧
    win0_2.index t = ![0, 0] ∧ win0_3.index t = ![0, 0] ∧ win0_4.index t = ![0, 0] ∧ win0_5.index t = ![0, 0] ∧
    win0_6.index t = ![(grid0.coords t 0).val, (grid0.coords t 1).val, 0] :=
  (by decide +kernel : ∀ t : Fin grid0.N, _)

/-- The result array as a function of the kernel's arguments. -/
def spec : S16x576x768.Idx → EReal := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) ⟨(i 1).val / 24, by have := (i 1).isLt; change _ < 576 at this; omega⟩ ⟨(i 1).val % 24, by omega⟩ (i 2)

/-- A grid point's frames are those of its batch entry and of its eight grid rows. -/
theorem frames_block (t : Fin cfg0.N) (f : Fin 4) (r : Fin 8) (s : Fin 24) (k : Fin 768) :
    iblk m c 0 t (ix5 0 f r s k)
      = m ((c : Thread nD τ).loc main_arg0)
          (ix5 (grid0.coords t 0) f ⟨8 * (grid0.coords t 1).val + r.val, by
            have h : (grid0.coords t 1).val < 3 := (grid0.coords t 1).isLt
            omega⟩ s k) := by
  blk_ext [iblk, V, (idx t).1]

/-- The whole table of row embeddings is staged at every grid point. -/
theorem rows_block (t : Fin cfg0.N) : iblk m c 1 t = m ((c : Thread nD τ).loc main_arg1) := by
  blk_ext! [iblk, V, (idx t).2.1]

/-- The whole table of column embeddings is staged at every grid point. -/
theorem columns_block (t : Fin cfg0.N) : iblk m c 2 t = m ((c : Thread nD τ).loc main_arg2) := by
  blk_ext! [iblk, V, (idx t).2.2.1]

/-- The one token type embedding is staged at every grid point. -/
theorem type_block (t : Fin cfg0.N) : iblk m c 3 t = m ((c : Thread nD τ).loc main_arg3) := by
  blk_ext! [iblk, V, (idx t).2.2.2.1]

/-- The layer norm's scale is staged as one row at every grid point. -/
theorem scale_block (t : Fin cfg0.N) (d : Fin 768) :
    iblk m c 4 t (ix2 0 d) = m ((c : Thread nD τ).loc main_arg4) (ix1 d) := by
  blk_ext! [iblk, V, (idx t).2.2.2.2.1]

/-- The layer norm's shift is staged as one row at every grid point. -/
theorem shift_block (t : Fin cfg0.N) (d : Fin 768) :
    iblk m c 5 t (ix2 0 d) = m ((c : Thread nD τ).loc main_arg5) (ix1 d) := by
  blk_ext! [iblk, V, (idx t).2.2.2.2.2.1]

/-- Where an element of a grid point's stored block lies in the result array. -/
theorem place (t : Fin cfg0.N) (y : S1x192x768.Idx) :
    (((View.whole main_v2).slice (win0_6.rect t)).emb y 0).val = (grid0.coords t 0).val
    ∧ (((View.whole main_v2).slice (win0_6.rect t)).emb y 1).val = 192 * (grid0.coords t 1).val + (y 1).val
    ∧ (((View.whole main_v2).slice (win0_6.rect t)).emb y 2).val = (y 2).val := by
  blk_simp [(idx t).2.2.2.2.2.2]
  idx_bounds y
  exact ⟨trivial, by omega, trivial⟩

/-- The eight rows of the row table that the body loads at a grid point. -/
theorem rows_load (X : Vec Ideal S32x768 .f32) (i : grid0.Coords) (h) (r : Fin 8) (k : Fin 768) :
    View.ld X (Rect.unit (s := S32x768) (k0_off1 i) ![8, 768] h) (ix2 r k)
      = X (ix2 ⟨8 * (i 1).val + r.val, by have h : (i 1).val < 3 := (i 1).isLt; omega⟩ k) := by
  refine View.ld_unit_apply_of _ _ _ _ _ _ fun a => ?_
  have e : k0_off1 i a = (![8 * (i 1).val, 0] : Fin 2 → Nat) a := congrFun (k0_off1_eq i) a
  refine Eq.trans ?_ (congrArg (· + _) e.symm)
  match a with
  | 0 => rfl
  | 1 => exact (Nat.zero_add _).symm

/-- The first 24 rows of the column table, which the body loads. -/
theorem columns_load (X : Vec Ideal S32x768 .f32) (h) (s : Fin 24) (k : Fin 768) :
    View.ld X (Rect.unit (s := S32x768) ![0, 0] ![24, 768] h) (ix2 s k)
      = X (ix2 (s.castLE (by decide)) k) := by
  pointwise
  rfl

/-- The block stored at a grid point, at token `r` of its 192 and channel `d`, is the specification's result at the
    point's batch entry and at the token's row and column of the whole grid. -/
theorem block_result (t : Fin cfg0.N) (h) (h') (r : Fin 192) (d : Fin 768) :
    layerNorm (Block.channels (iblk m c 0 t) (View.ld (iblk m c 1 t) (Rect.unit (s := S32x768) (k0_off1 (grid0.coords t)) ![8, 768] h))
        (View.ld (iblk m c 2 t) (Rect.unit (s := S32x768) ![0, 0] ![24, 768] h')) (iblk m c 3 t) ⟨r / 24, by omega⟩ ⟨r % 24, by omega⟩)
      (iblk m c 4 t (ix2 0 d)) (iblk m c 5 t (ix2 0 d)) d
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (grid0.coords t 0) ⟨8 * (grid0.coords t 1).val + r.val / 24, by
          have h : (grid0.coords t 1).val < 3 := (grid0.coords t 1).isLt
          omega⟩ ⟨r % 24, by omega⟩ d := by
  rw [scale_block, shift_block, rows_block, columns_block, type_block]
  unfold result
  congr 1
  funext k
  unfold Block.channels
  rw [columns_load, rows_load]
  simp only [frames_block]
  rfl

/-- The specification at the place of a stored element. -/
theorem spec_place (t : Fin cfg0.N) (y : S1x192x768.Idx) :
    spec m c (((View.whole main_v2).slice (win0_6.rect t)).emb y)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (grid0.coords t 0) ⟨8 * (grid0.coords t 1).val + (y 1).val / 24, by
          have h : (grid0.coords t 1).val < 3 := (grid0.coords t 1).isLt
          have h' : (y 1).val < 192 := (y 1).isLt
          omega⟩ ⟨(y 1).val % 24, by omega⟩ (y 2) := by
  obtain ⟨p0, p1, p2⟩ := place t y
  unfold spec
  congr 1
  · exact Fin.ext p0
  · exact Fin.ext ((congrArg (· / 24) p1).trans (by dsimp only; omega))
  · exact Fin.ext ((congrArg (· % 24) p1).trans (by dsimp only; omega))
  · exact Fin.ext p2

/-- After the kernel's run the result array is the specification's result of the arguments. -/
theorem final : (dats m 0 c).arrAt 6 cfg0.N = spec m c := by
  refine (dats m 0 c).arrAt_eq_of_covers 6 _ (by decide +kernel) fun t hf y => ?_
  blk_simp
  rw [after0_6]
  unfold outsAt0
  frame_out
  change S1x192x768.Idx at y
  refine ((congrArg _ (eq_ix3 y)).trans (Block.stored_apply _ _ _ _ _ _ _ _ _)).trans ?_
  exact (block_result m c t _ _ (y 1) (y 2)).trans (spec_place m c t y).symm

end Cert.KernelIdeal.Final

end
-- ==== Proof.Takes.lean ====
/- The reference's three table look-ups, each read at one element. The positions it looks up are the row numbers 0 to 23,
   the column numbers 0 to 23, and the constant 0; all lie in their tables, so the look-up's guard never fires. -/
module

public import proofs.«01_k».proof.Proof.Gen.ReferenceIdeal
public import Idealize.ShloMosaic.Lib.Pointwise
public import Idealize.ShloMosaic.Lib.Routing.Ops

@[expose] public section

set_option maxRecDepth 16384

noncomputable section

namespace Cert.ReferenceIdeal.Takes

open Idealize.ShloMosaic Cert.ReferenceIdeal Cert.ReferenceIdeal.Gen

/-- The positions looked up in the row and the column table, a negative one counted from the table's end. -/
def axisIds : IVec S24 32 :=
  select (cmpi .slt (iotaInDim S24 32 0) (broadcastInDim S24 ![] bcast_S_S24 (constantI S_ 32 0#32)))
    (addi (iotaInDim S24 32 0) (broadcastInDim S24 ![] bcast_S_S24 (constantI S_ 32 32#32))) (iotaInDim S24 32 0)

/-- The same positions as a column. -/
def axisCol : IVec S24x1 32 := broadcastInDim S24x1 ![0] bcast_S24_S24x1_0 axisIds

/-- Whether each position lies in the table of 32 rows. -/
def axisInside : IVec S24x1 1 :=
  andi (cmpi .sge axisCol (broadcastInDim S24x1 ![] bcast_S_S24x1 (constantI S_ 32 0#32)))
    (cmpi .sle axisCol (broadcastInDim S24x1 ![0, 1] bcast_S1x1_S24x1_0_1
      (broadcastInDim S1x1 ![1] bcast_S1_S1x1_1 (constantI S1 32 31#32))))

/-- The look-up of the positions in a table of 32 rows. -/
def axisTake (tab : FVec Ideal S32x768 .f32) : FVec Ideal S24x768 .f32 :=
  select (broadcastInDim S24x768 ![0] bcast_S24_S24x768_0
      (Host.reduce IntOp.andi axisInside (constantI S_ 1 1#1) reducesTo_S24x1_S24_d1 h_S_))
    (Host.gather gather_S32x768_S24x1_S24x768_1_0_n_n_0_1_1768 tab axisCol)
    (broadcastInDim S24x768 ![] bcast_S_S24x768 (constant S_ .f32 0x7FC00000#32))

/-- Position `r` is `r`. -/
theorem axisCol_apply (r : Fin 24) (q : Fin 1) : axisCol (ix2 r q) = BitVec.ofNat 32 r.val := by
  pointwise [axisCol, axisIds]
  revert r
  decide

/-- Every position lies in the table. -/
theorem axisInside_apply (i : S24x1.Idx) : axisInside i = 1#1 := by
  obtain ⟨r, q, rfl⟩ : ∃ (r : Fin 24) (q : Fin 1), i = ix2 r q := ⟨i 0, i 1, eq_ix2 i⟩
  pointwise [axisInside]
  simp only [axisCol_apply]
  revert r
  decide

/-- The look-up's row `r` is the table's row `r`. -/
theorem axisTake_apply (tab : FVec Ideal S32x768 .f32) (r : Fin 24) (d : Fin 768) :
    axisTake tab (ix2 r d) = tab (ix2 (r.castLE (by decide)) d) := by
  have hg : Host.gather gather_S32x768_S24x1_S24x768_1_0_n_n_0_1_1768 tab axisCol (ix2 r d)
      = tab (ix2 (r.castLE (by decide)) d) :=
    Routing.gather_row (nb := 32) (B := 768) (n := 24) _ rfl rfl rfl rfl rfl tab axisCol r d (r.castLE (by decide)) (axisCol_apply r 0) (by decide)
  pointwise [axisTake]
  simp only [axisInside_apply, hg]
  rfl

/-- The positions looked up in the token type table: zero for every token, a negative one counted from the table's end. -/
def typeIds : IVec S16x576 32 :=
  select (cmpi .slt (broadcastInDim S16x576 ![] bcast_S_S16x576 (constantI S_ 32 0#32))
      (broadcastInDim S16x576 ![] bcast_S_S16x576 (constantI S_ 32 0#32)))
    (addi (broadcastInDim S16x576 ![] bcast_S_S16x576 (constantI S_ 32 0#32))
      (broadcastInDim S16x576 ![] bcast_S_S16x576 (constantI S_ 32 1#32)))
    (broadcastInDim S16x576 ![] bcast_S_S16x576 (constantI S_ 32 0#32))

/-- The same positions, each as a vector of one. -/
def typeCol : IVec S16x576x1 32 := broadcastInDim S16x576x1 ![0, 1] bcast_S16x576_S16x576x1_0_1 typeIds

/-- Whether each position lies in the table of one row. -/
def typeInside : IVec S16x576x1 1 :=
  andi (cmpi .sge typeCol (broadcastInDim S16x576x1 ![] bcast_S_S16x576x1 (constantI S_ 32 0#32)))
    (cmpi .sle typeCol (broadcastInDim S16x576x1 ![0, 1, 2] bcast_S1x1x1_S16x576x1_0_1_2
      (broadcastInDim S1x1x1 ![2] bcast_S1_S1x1x1_2 (constantI S1 32 0#32))))

/-- The look-up of every token's position in the table of one row. -/
def typeTake (tab : FVec Ideal S1x768 .f32) : FVec Ideal S16x576x768 .f32 :=
  select (broadcastInDim S16x576x768 ![0, 1] bcast_S16x576_S16x576x768_0_1
      (Host.reduce IntOp.andi typeInside (constantI S_ 1 1#1) reducesTo_S16x576x1_S16x576_d2 h_S_))
    (Host.gather gather_S1x768_S16x576x1_S16x576x768_2_0_n_n_0_2_1768 tab typeCol)
    (broadcastInDim S16x576x768 ![] bcast_S_S16x576x768 (constant S_ .f32 0x7FC00000#32))

/-- Every position lies in the table. -/
theorem typeInside_apply (i : S16x576x1.Idx) : typeInside i = 1#1 := by
  obtain ⟨b, n, q, rfl⟩ : ∃ (b : Fin 16) (n : Fin 576) (q : Fin 1), i = ix3 b n q := ⟨i 0, i 1, i 2, eq_ix3 i⟩
  pointwise [typeInside, typeCol, typeIds]
  decide

/-- A gather of whole rows from a table of one row gives that row, whatever the positions. -/
theorem typeGather_apply (tab : FVec Ideal S1x768 .f32) (idx : IVec S16x576x1 32) (b : Fin 16) (n : Fin 576) (d : Fin 768) :
    Host.gather gather_S1x768_S16x576x1_S16x576x768_2_0_n_n_0_2_1768 tab idx (ix3 b n d) = tab (ix2 0 d) := by
  unfold Host.gather
  refine congrArg tab (funext fun a => ?_)
  match a with
  | ⟨0, _⟩ => exact Subsingleton.elim (α := Fin 1) _ _
  | ⟨1, _⟩ =>
    apply Fin.ext
    show GatherDims.start _ _ idx 1 + GatherDims.batchCoord _ _ 1 + GatherDims.offCoord _ _ 1 = d.val
    rw [GatherDims.batchCoord_eq_zero _ _ _ (by exact List.not_mem_nil), Nat.add_zero]
    unfold GatherDims.start GatherDims.offCoord
    rw [dif_neg (by decide), dif_pos (by decide), Nat.zero_add]
    rfl

/-- Every token's look-up is the table's one row. -/
theorem typeTake_apply (tab : FVec Ideal S1x768 .f32) (b : Fin 16) (n : Fin 576) (d : Fin 768) :
    typeTake tab (ix3 b n d) = tab (ix2 0 d) := by
  pointwise [typeTake]
  simp only [typeInside_apply, typeGather_apply]
  rfl

end Cert.ReferenceIdeal.Takes

end
-- ==== Proof.Ref.lean ====
/- What the reference returns, read at one element: the specification's result of its arguments. -/
module

public import proofs.«01_k».proof.Proof.Gen.ReferenceIdeal.Run
public import proofs.«01_k».proof.Proof.Takes
public import proofs.«01_k».proof.Proof.Spec
public import Idealize.ShloMosaic.Lib.Pointwise

@[expose] public section

set_option maxRecDepth 16384

noncomputable section

namespace Cert.ReferenceIdeal.Ref

open Idealize.ShloMosaic Idealize.ShloMosaic.TcCoe Cert.EmbedNorm Cert.ReferenceIdeal Cert.ReferenceIdeal.Gen
open Cert.ReferenceIdeal.Takes

variable (g : FVec Ideal S16x4x24x24x768 .f32) (row col : FVec Ideal S32x768 .f32) (typ : FVec Ideal S1x768 .f32)

/-- The reference's array of token embeddings. -/
def tokens : FVec Ideal S16x576x768 .f32 :=
  addf (shapeCast _ (addf (addf
      (Host.divf (Host.reduceAdd g (constant S_ .f32 0x00000000#32) reducesTo_S16x4x24x24x768_S16x24x24x768_d1 h_S_)
        (broadcastInDim S16x24x24x768 ![] bcast_S_S16x24x24x768 (constant S_ .f32 0x40800000#32)))
      (broadcastInDim S16x24x24x768 ![0, 1, 2, 3] bcast_S1x24x1x768_S16x24x24x768_0_1_2_3
        (shapeCast _ (axisTake row) shapeCasts_S24x768_S1x24x1x768)))
      (broadcastInDim S16x24x24x768 ![0, 1, 2, 3] bcast_S1x1x24x768_S16x24x24x768_0_1_2_3
        (shapeCast _ (axisTake col) shapeCasts_S24x768_S1x1x24x768))) shapeCasts_S16x24x24x768_S16x576x768)
    (typeTake typ)

/-- A token's embedding at a channel is the specification's. -/
theorem tokens_apply (b : Fin 16) (n : Fin 576) (d : Fin 768) :
    tokens g row col typ (ix3 b n d)
      = token (fun f => g (ix5 b f ⟨n / 24, by omega⟩ ⟨n % 24, by omega⟩ d))
          (row (ix2 ⟨n / 24, by omega⟩ d)) (col (ix2 ⟨n % 24, by omega⟩ d)) (typ (ix2 0 d)) := by
  pointwise [tokens]
  simp only [axisTake_apply, typeTake_apply, token]
  rfl

/-- The mean over the channels of each token, the channel axis kept with one entry. -/
def means (x : FVec Ideal S16x576x768 .f32) : FVec Ideal S16x576x1 .f32 :=
  Host.divf (broadcastInDim S16x576x1 ![0, 1] bcast_S16x576_S16x576x1_0_1
      (Host.reduceAdd x (constant S_ .f32 0x00000000#32) reducesTo_S16x576x768_S16x576_d2 h_S_))
    (broadcastInDim S16x576x1 ![] bcast_S_S16x576x1 (constant S_ .f32 0x44400000#32))

/-- Each token's channels with their mean taken away. -/
def centers (x : FVec Ideal S16x576x768 .f32) : FVec Ideal S16x576x768 .f32 :=
  subf x (broadcastInDim S16x576x768 ![0, 1, 2] bcast_S16x576x1_S16x576x768_0_1_2 (means x))

/-- The reference's layer norm of an array of tokens. -/
def norm (x : FVec Ideal S16x576x768 .f32) (w b : FVec Ideal S768 .f32) : FVec Ideal S16x576x768 .f32 :=
  addf (mulf (Host.divf (centers x)
      (broadcastInDim S16x576x768 ![0, 1, 2] bcast_S16x576x1_S16x576x768_0_1_2
        (Host.sqrt (addf (means (mulf (centers x) (centers x)))
          (broadcastInDim S16x576x1 ![] bcast_S_S16x576x1 (constant S_ .f32 0x2B8CBCCC#32))))))
      (broadcastInDim S16x576x768 ![0, 1, 2] bcast_S1x1x768_S16x576x768_0_1_2
        (broadcastInDim S1x1x768 ![2] bcast_S768_S1x1x768_2 w)))
    (broadcastInDim S16x576x768 ![0, 1, 2] bcast_S1x1x768_S16x576x768_0_1_2
      (broadcastInDim S1x1x768 ![2] bcast_S768_S1x1x768_2 b))

/-- A token's mean is the sum of its channels divided by 768. -/
theorem means_apply (x : FVec Ideal S16x576x768 .f32) (n : Fin 16) (p : Fin 576) (q : Fin 1) :
    means x (ix3 n p q) = Ideal.div (∑ k : Fin 768, x (ix3 n p k)) (Ideal.ofBits .f32 0x44400000#32) := by
  pointwise [means]

/-- A token's centered channels are the specification's. -/
theorem centers_apply (x : FVec Ideal S16x576x768 .f32) (n : Fin 16) (p : Fin 576) (d : Fin 768) :
    centers x (ix3 n p d) = centered (fun k => x (ix3 n p k)) d := by
  pointwise [centers]
  rw [means_apply]
  rfl

/-- The reference's layer norm at an element is the specification's layer norm of that token's channels. -/
theorem norm_apply (x : FVec Ideal S16x576x768 .f32) (w b : FVec Ideal S768 .f32) (n : Fin 16) (p : Fin 576) (d : Fin 768) :
    norm x w b (ix3 n p d) = layerNorm (fun k => x (ix3 n p k)) (w (ix1 d)) (b (ix1 d)) d := by
  pointwise [norm]
  rw [means_apply, centers_apply]
  pointwise
  simp only [centers_apply]
  rfl

/-- The reference's result is its layer norm of its token embeddings. -/
theorem composed (m : (ℓ : Loc nD τ sig) → Buf (Elt Ideal) ℓ) (c : Dev nD) :
    Value.res_out0 m c
      = norm (tokens (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5)) := by
  unfold Value.res_out0 Value.res_main_v40
  rfl

/-- The reference's result at an element is the specification's result of its arguments. -/
theorem result_apply (m : (ℓ : Loc nD τ sig) → Buf (Elt Ideal) ℓ) (c : Dev nD) (n : Fin 16) (p : Fin 576) (d : Fin 768) :
    Value.res_out0 m c (ix3 n p d)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          n ⟨p / 24, by omega⟩ ⟨p % 24, by omega⟩ d := by
  rw [composed]
  refine (norm_apply _ _ _ n p d).trans ?_
  simp only [tokens_apply]
  rfl

end Cert.ReferenceIdeal.Ref

end
-- ==== Proof.Equal.lean ====
/- The equation between the two programs: on equal arguments the reference's result is the kernel's result array. -/
module

public import proofs.«01_k».proof.Proof.Array
public import proofs.«01_k».proof.Proof.Ref

@[expose] public section

noncomputable section

namespace Cert.EmbedNorm

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the six arguments, the reference's result equals what the kernel's specification says,
    element by element. -/
theorem reference_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Value.res_out0 m' c = Cert.KernelIdeal.Final.spec m c := by
  funext i
  refine ((congrArg _ (eq_ix3 i)).trans (Cert.ReferenceIdeal.Ref.result_apply m' c (i 0) (i 1) (i 2))).trans ?_
  rw [h0, h1, h2, h3, h4, h5]
  rfl

end Cert.EmbedNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The kernel at machine floats runs, keeps its arguments and ends with every counter at zero. -/
theorem kernel_frame : quiescent_Kernel (hKernel := Cert.Kernel.Gen.facts) :=
  fun m ρ _ => Cert.Kernel.Gen.frame m ρ

/-- The kernel at exact arithmetic runs, keeps its arguments and ends with every counter at zero. -/
theorem ideal_frame : quiescent_KernelIdeal (hKernelIdeal := Cert.KernelIdeal.Gen.facts) :=
  fun m ρ _ => Cert.KernelIdeal.Gen.frame m ρ

/-- The reference runs, keeps its arguments and ends with every counter at zero: it has no counters. -/
theorem reference_frame : quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- No operation of the kernel was replaced. -/
theorem kernel_preserved : preserves_Kernel_KernelIdeal := trivial

/-- From memories that agree on the arguments, the kernel and the reference end with equal results: both are the
    specification's array. -/
theorem results_equal : algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Final.spec m c, ?_, ?_⟩
  · refine (θ_run Cert.KernelIdeal.defs _ _).mono (fun r h c => ?_) (Cert.KernelIdeal.Value.run_blocks (F := Ideal) m g)
    exact ⟨(h c).1.trans (Cert.KernelIdeal.Final.final m c), (h c).2⟩
  · refine (θ_run Cert.ReferenceIdeal.defs _ _).mono (fun r h c => ?_) (Cert.ReferenceIdeal.Value.run (F := Ideal) m' g')
    obtain ⟨h0, h1, h2, h3, h4, h5⟩ := hargs c
    exact ⟨(h c).1.trans (Cert.EmbedNorm.reference_eq m m' c h0 h1 h2 h3 h4 h5), (h c).2⟩

/-- The five claims, with the programs' stated facts. -/
theorem claim : Cert.Claim :=
  ⟨Cert.Kernel.Gen.facts, Cert.KernelIdeal.Gen.facts, Cert.ReferenceIdeal.Gen.facts,
    kernel_frame, ideal_frame, reference_frame, kernel_preserved, results_equal⟩

end Cert.Proof

end
